-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x5120 : Shape := ⟨3, ![1, 512, 5120]⟩
abbrev S2560x5120 : Shape := ⟨2, ![2560, 5120]⟩
abbrev S40x5120 : Shape := ⟨2, ![40, 5120]⟩
abbrev S5120 : Shape := ⟨1, ![5120]⟩
abbrev S512x5120 : Shape := ⟨2, ![512, 5120]⟩
abbrev S1x5120 : Shape := ⟨2, ![1, 5120]⟩
abbrev S2560x1024 : Shape := ⟨2, ![2560, 1024]⟩
abbrev S40x1024 : Shape := ⟨2, ![40, 1024]⟩
abbrev S1x1024 : Shape := ⟨2, ![1, 1024]⟩
abbrev S512x1024 : Shape := ⟨2, ![512, 1024]⟩
abbrev S5120x1024 : Shape := ⟨2, ![5120, 1024]⟩
abbrev S40x128x1024 : Shape := ⟨3, ![40, 128, 1024]⟩
abbrev S40x1x1024 : Shape := ⟨3, ![40, 1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S1x512x5120, .bf16⟩
  | .hbm, ⟨1, _⟩ => ⟨S2560x5120, .i8⟩
  | .hbm, ⟨2, _⟩ => ⟨S40x5120, .bf16⟩
  | .hbm, ⟨3, _⟩ => ⟨S40x5120, .i8⟩
  | .hbm, ⟨4, _⟩ => ⟨S5120, .f32⟩
  | .hbm, ⟨5, _⟩ => ⟨S512x5120, .bf16⟩
  | .hbm, ⟨6, _⟩ => ⟨S1x5120, .f32⟩
  | .hbm, ⟨7, _⟩ => ⟨S512x5120, .bf16⟩
  | .local _ .vmem, ⟨0, _⟩ => ⟨S512x5120, .bf16⟩
  | .local _ .vmem, ⟨1, _⟩ => ⟨S2560x1024, .i8⟩
  | .local _ .vmem, ⟨2, _⟩ => ⟨S2560x1024, .i8⟩
  | .local _ .vmem, ⟨3, _⟩ => ⟨S40x1024, .bf16⟩
  | .local _ .vmem, ⟨4, _⟩ => ⟨S40x1024, .bf16⟩
  | .local _ .vmem, ⟨5, _⟩ => ⟨S40x1024, .i8⟩
  | .local _ .vmem, ⟨6, _⟩ => ⟨S40x1024, .i8⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S1x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x512x5120 : Shape := ⟨3, ![1, 512, 5120]⟩
abbrev S2560x5120 : Shape := ⟨2, ![2560, 5120]⟩
abbrev S40x5120 : Shape := ⟨2, ![40, 5120]⟩
abbrev S5120 : Shape := ⟨1, ![5120]⟩
abbrev S_ : Shape := ⟨0, ![]⟩
abbrev S2560x1x5120 : Shape := ⟨3, ![2560, 1, 5120]⟩
abbrev S2560x2x5120 : Shape := ⟨3, ![2560, 2, 5120]⟩
abbrev S40x128x5120 : Shape := ⟨3, ![40, 128, 5120]⟩
abbrev S40x1x5120 : Shape := ⟨3, ![40, 1, 5120]⟩
abbrev S5120x5120 : Shape := ⟨2, ![5120, 5120]⟩
abbrev S1x1x5120 : Shape := ⟨3, ![1, 1, 5120]⟩
abbrev S512x5120 : Shape := ⟨2, ![512, 5120]⟩

abbrev nBuf : Space → Nat
  | .hbm => 32
  | .vmem => 0
  | .smem => 0
  | _ => 0

abbrev bufTy : (tb : Table) → Fin (tcTables nBuf tb) → BufTy
  | .hbm, ⟨0, _⟩ => ⟨S1x512x5120, .bf16⟩
  | .hbm, ⟨1, _⟩ => ⟨S2560x5120, .i8⟩
  | .hbm, ⟨2, _⟩ => ⟨S40x5120, .bf16⟩
  | .hbm, ⟨3, _⟩ => ⟨S40x5120, .i8⟩
  | .hbm, ⟨4, _⟩ => ⟨S5120, .f32⟩
  | .hbm, ⟨5, _⟩ => ⟨S2560x5120, .i32⟩
  | .hbm, ⟨6, _⟩ => ⟨S_, .i32⟩
  | .hbm, ⟨7, _⟩ => ⟨S2560x5120, .i32⟩
  | .hbm, ⟨8, _⟩ => ⟨S2560x5120, .i32⟩
  | .hbm, ⟨9, _⟩ => ⟨S_, .i32⟩
  | .hbm, ⟨10, _⟩ => ⟨S2560x5120, .i32⟩
  | .hbm, ⟨11, _⟩ => ⟨S2560x5120, .i32⟩
  | .hbm, ⟨12, _⟩ => ⟨S2560x1x5120, .i32⟩
  | .hbm, ⟨13, _⟩ => ⟨S2560x1x5120, .i32⟩
  | .hbm, ⟨14, _⟩ => ⟨S2560x2x5120, .i32⟩
  | .hbm, ⟨15, _⟩ => ⟨S40x128x5120, .i32⟩
  | .hbm, ⟨16, _⟩ => ⟨S40x128x5120, .bf16⟩
  | .hbm, ⟨17, _⟩ => ⟨S40x5120, .i32⟩
  | .hbm, ⟨18, _⟩ => ⟨S40x5120, .bf16⟩
  | .hbm, ⟨19, _⟩ => ⟨S40x1x5120, .bf16⟩
  | .hbm, ⟨20, _⟩ => ⟨S40x1x5120, .bf16⟩
  | .hbm, ⟨21, _⟩ => ⟨S40x128x5120, .bf16⟩
  | .hbm, ⟨22, _⟩ => ⟨S40x128x5120, .bf16⟩
  | .hbm, ⟨23, _⟩ => ⟨S40x128x5120, .bf16⟩
  | .hbm, ⟨24, _⟩ => ⟨S40x128x5120, .bf16⟩
  | .hbm, ⟨25, _⟩ => ⟨S5120x5120, .bf16⟩
  | .hbm, ⟨26, _⟩ => ⟨S1x512x5120, .f32⟩
  | .hbm, ⟨27, _⟩ => ⟨S1x1x5120, .f32⟩
  | .hbm, ⟨28, _⟩ => ⟨S1x512x5120, .f32⟩
  | .hbm, ⟨29, _⟩ => ⟨S1x512x5120, .f32⟩
  | .hbm, ⟨30, _⟩ => ⟨S1x512x5120, .bf16⟩
  | .hbm, ⟨31, _⟩ => ⟨S512x5120, .bf16⟩
  | _, _ => ⟨S1x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Nibbles.lean ====
/-
  Hand-written, untrusted. A byte holds two four-bit codes. The kernel lays the two codes of each byte side by side in a
  32-bit word, the low code in the low half, and reads the words as rows of 16-bit elements: row `2r` of the result is the
  low code of byte row `r`, row `2r + 1` its high code. This module reads that at one index, and gives the code as a number.
-/
module

public import Idealize.ShloMosaic.Lib.BitcastPair
public import Idealize.ShloMosaic.Lib.Pointwise

@[expose] public section

set_option maxRecDepth 16384

noncomputable section

namespace Cert.Proof

open Idealize.ShloMosaic

/-- Row `2r` of 32-bit words read at 16 bits is the low half of word row `r`, row `2r + 1` its high half, lane by lane. -/
theorem bitcast_rows {R r n : Nat} (x : (⟨2, ![r, n]⟩ : Shape).Idx → BitVec 32)
    (h : (⟨2, ![r, n]⟩ : Shape).Bitcasts 32 ⟨2, ![R, n]⟩ 16) (k : Fin R) (l : Fin n) (p : Fin r) (hp : p.val = k.val / 2) :
    bitcast ⟨2, ![R, n]⟩ 16 x h (ix2 k l) = (x (ix2 p l)).extractLsb' (16 * (k.val % 2)) 16 := by
  refine (bitcast_32_16 x h _).trans (congrArg (fun v => BitVec.extractLsb' (16 * (k.val % 2)) 16 (x v)) ?_)
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The code in row `k` of the unpacked weights, of the byte `b` in row `k / 2` of the packed ones: the low four bits
    where `k` is even, the high four where it is odd. -/
def code (k : Nat) (b : BitVec 8) : Nat := if k % 2 = 0 then b.toNat % 16 else b.toNat / 16

/-- The word that the kernel makes of a byte: the low code in bits 0 to 3, the high code in bits 16 to 19. Its half that
    row `k` reads, cut to four bits, is the code of row `k`. -/
theorem code_of_word (k : Nat) (b : BitVec 8) :
    (((((b.setWidth 32 &&& 15#32) ||| ((b.setWidth 32).sshiftRight 4 <<< 16)).extractLsb' (16 * (k % 2)) 16).setWidth 4).toNat)
      = code k b := by
  unfold code
  rcases Nat.mod_two_eq_zero_or_one k with h | h <;> rw [h] <;> revert b <;> decide +kernel

end Cert.Proof

end
-- ==== Proof.Reference.lean ====
/-
  Hand-written, untrusted. The linear layer as one formula (`linear`), and the reference's result read at an index: it is
  that formula of the arguments (`ref_eq`).
-/
module

public import proofs.«01_k».proof.Proof.Gen.ReferenceIdeal.Run
public import proofs.«01_k».proof.Proof.Nibbles

@[expose] public section

set_option maxRecDepth 16384

noncomputable section

namespace Cert.Proof

open Cert.ReferenceIdeal Cert.ReferenceIdeal.Gen Idealize.ShloMosaic

/-- The dequantised weight of row `k`, column `n`: the code less its group's zero point, times its group's scale. A group
    is 128 rows. -/
def weight (W : IVec S2560x5120 8) (S : FVec Ideal S40x5120 .bf16) (Z : IVec S40x5120 8) (k n : Fin 5120) : EReal :=
  (((code k.val (W (ix2 ⟨k.val / 2, by omega⟩ n)) : ℝ) : EReal)
      - (((Z (ix2 ⟨k.val / 128, by omega⟩ n)).toNat : ℝ) : EReal))
    * S (ix2 ⟨k.val / 128, by omega⟩ n)

/-- The linear layer: row `r` of the input against column `n` of the dequantised weights, plus the bias of column `n`. -/
def linear (X : FVec Ideal S1x512x5120 .bf16) (W : IVec S2560x5120 8) (S : FVec Ideal S40x5120 .bf16) (Z : IVec S40x5120 8)
    (B : FVec Ideal S5120 .f32) : FVec Ideal S512x5120 .bf16 := fun j =>
  (∑ k : Fin 5120, (X (ix3 0 (j 0) k) : EReal) * weight W S Z k (j 1)) + B (ix1 (j 1))

/-- The reference's operations, composed. -/
def REF (X : FVec Ideal S1x512x5120 .bf16) (W : IVec S2560x5120 8) (S : FVec Ideal S40x5120 .bf16) (Z : IVec S40x5120 8)
    (B : FVec Ideal S5120 .f32) : FVec Ideal S512x5120 .bf16 :=
  shapeCast _ (truncf .bf16 (addf (Host.dotGeneral dot_S1x512x5120_S5120x5120_S1x512x5120_2_0_01_1_n_n none X (shapeCast _ (mulf (subf (sitofp .bf16 (shapeCast _ (concatenate S2560x2x5120 1 [⟨S2560x1x5120, (broadcastInDim S2560x1x5120 ![0, 2] bcast_S2560x5120_S2560x1x5120_0_2 (andi (extui 32 W natLt_8_32) (broadcastInDim S2560x5120 ![] bcast_S_S2560x5120 (constantI S_ 32 15#32))))⟩, ⟨S2560x1x5120, (broadcastInDim S2560x1x5120 ![0, 2] bcast_S2560x5120_S2560x1x5120_0_2 (Host.shrsi (extui 32 W natLt_8_32) (broadcastInDim S2560x5120 ![] bcast_S_S2560x5120 (constantI S_ 32 4#32))))⟩] concatenates_S2560x1x5120_S2560x1x5120_S2560x2x5120_d1) shapeCasts_S2560x2x5120_S40x128x5120)) (broadcastInDim S40x128x5120 ![0, 1, 2] bcast_S40x1x5120_S40x128x5120_0_1_2 (broadcastInDim S40x1x5120 ![0, 2] bcast_S40x5120_S40x1x5120_0_2 (sitofp .bf16 (extui 32 Z natLt_8_32))))) (broadcastInDim S40x128x5120 ![0, 1, 2] bcast_S40x1x5120_S40x128x5120_0_1_2 (broadcastInDim S40x1x5120 ![0, 2] bcast_S40x5120_S40x1x5120_0_2 S))) shapeCasts_S40x128x5120_S5120x5120)) (broadcastInDim S1x512x5120 ![0, 1, 2] bcast_S1x1x5120_S1x512x5120_0_1_2 (broadcastInDim S1x1x5120 ![2] bcast_S5120_S1x1x5120_2 B))) bitsLt_bf16_f32) shapeCasts_S1x512x5120_S512x5120

/-- The code that the reference takes of a byte for row `k`: the low four bits where the row within its group is even, the
    byte shifted right by four where it is odd. Read as an integer, it is the code of row `k`. -/
theorem host_code (k : Nat) (b : BitVec 8) :
    (if k % 128 % 2 < 1 then IntOp.andi (b.setWidth 32) 15#32 else IntOp.shrsi ArithUnit.host (b.setWidth 32) 4#32).toInt
      = (code k b : ℤ) := by
  have e : k % 128 % 2 = k % 2 := Nat.mod_mod_of_dvd k ⟨64, rfl⟩
  unfold code
  rw [e]
  rcases Nat.mod_two_eq_zero_or_one k with h | h <;> rw [h] <;> revert b <;> decide +kernel

/-- A byte widened with zeros to 32 bits and read as a signed integer is the byte. -/
theorem host_byte (b : BitVec 8) : (b.setWidth 32).toInt = (b.toNat : ℤ) := by
  revert b; decide +kernel

/-- A group is 64 rows of bytes: counting the bytes of the groups before and then those before in the group gives the row's
    byte. -/
theorem byte_row (k : Nat) : k / 128 * 64 + k % 128 / 2 = k / 2 := by omega

/-- The reference's result is the linear layer of its arguments. -/
theorem ref_eq (X : FVec Ideal S1x512x5120 .bf16) (W : IVec S2560x5120 8) (S : FVec Ideal S40x5120 .bf16) (Z : IVec S40x5120 8)
    (B : FVec Ideal S5120 .f32) : REF X W S Z B = linear X W S Z B := by
  funext j
  idx_vars j
  pointwise [REF, linear, weight]
  refine congrArg (· + B (ix1 j1)) (Finset.sum_congr rfl fun k _ => ?_)
  simp only [byte_row, dite_eq_ite]
  have hq := host_code k.val (W (ix2 ⟨k.val / 2, by omega⟩ j1))
  have hz := host_byte (Z (ix2 ⟨k.val / 128, by omega⟩ j1))
  refine congrArg (X (ix3 0 j0 k) * ·) (congrArg (· * S (ix2 ⟨k.val / 128, by omega⟩ j1)) (congrArg₂ (· - ·) ?_ ?_))
  · exact (congrArg (fun n : ℤ => ((n : ℝ) : EReal)) hq).trans (by rw [Int.cast_natCast])
  · exact (congrArg (fun n : ℤ => ((n : ℝ) : EReal)) hz).trans (by rw [Int.cast_natCast])

end Cert.Proof

end
-- ==== Proof.Kernel.lean ====
/-
  Hand-written, untrusted. The kernel's result array is the linear layer of its arguments (`final`): what one grid point
  stores (`pay_at`), at the place in the arrays where its blocks lie (`point`), over the five points whose blocks tile the
  result.
-/
module

public import Idealize.ShloMosaic.Lib.Pipeline.ValueKit
public import proofs.«01_k».proof.Proof.Gen.KernelIdeal.Value
public import proofs.«01_k».proof.Proof.Reference

@[expose] public section

set_option maxRecDepth 16384

noncomputable section

namespace Cert.Proof.Kernel

open Cert.KernelIdeal Cert.KernelIdeal.Gen Idealize.ShloMosaic Idealize.ShloMosaic.TcCoe Idealize.SL.Sem

/-- The unpacked code that the body has in row `k`, lane `l`, as a number: the code of row `k` of its byte. -/
theorem code_at (v0 : Vec Ideal S2560x1024 .i8) (k : Fin 5120) (l : Fin 1024) :
    (FloatOps.uitofp (F := Ideal) FTy.bf16 (BitVec.setWidth 4
      (bitcast S5120x1024 16
        (ori (andi (extui 32 v0 natLt_8_32) (broadcast S2560x1024 15#32))
          (shli (shrsi (extui 32 v0 natLt_8_32) (broadcast S2560x1024 4#32)) (broadcast S2560x1024 16#32)))
        bitcasts_S2560x1024_w32_S5120x1024_w16 (ix2 k l))) : EReal)
      = ((code k.val (v0 (ix2 ⟨k.val / 2, by omega⟩ l)) : ℝ) : EReal) := by
  rw [bitcast_rows _ _ k l ⟨k.val / 2, by omega⟩ rfl]
  exact congrArg (fun n : Nat => ((n : ℝ) : EReal)) (code_of_word k.val _)

/-- What the body stores at row `r`, lane `l`, of its blocks: the input row against the dequantised column, plus the bias. -/
theorem pay_at (wp : Vec Ideal S2560x1024 .i8) (z : Vec Ideal S40x1024 .i8) (s : FVec Ideal S40x1024 .bf16)
    (x : FVec Ideal S512x5120 .bf16) (b : FVec Ideal S1x1024 .f32) (r : Fin 512) (l : Fin 1024) :
    k0_pay1 (F := Ideal) wp z s x b (ix2 r l)
      = (∑ k : Fin 5120, (x (ix2 r k) : EReal)
          * ((((code k.val (wp (ix2 ⟨k.val / 2, by omega⟩ l)) : ℝ) : EReal)
              - (((z (ix2 ⟨k.val / 128, by omega⟩ l)).toNat : ℝ) : EReal))
            * s (ix2 ⟨k.val / 128, by omega⟩ l)))
        + b (ix2 0 l) := by
  pointwise [k0_pay1]
  refine congrArg (· + b (ix2 0 l)) (Finset.sum_congr rfl fun k _ => ?_)
  rw [code_at]
  rfl

variable (m : (ℓ : Loc nD τ sig) → Buf (Elt Ideal) ℓ)

/-- The blocks' places, at every grid point: the input is read whole; the weights, the scales, the zero points, the bias and
    the result at the point's column of blocks. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- What the body stores at `y` of its block at point `t` is the linear layer of the arguments, at `y`'s place in the
    result. -/
theorem point (c : Dev nD) (t : Fin cfg0.N) (y : S512x1024.Idx) :
    k0_pay1 (F := Ideal) (iblk m c 1 t) (iblk m c 3 t) (iblk m c 2 t) (iblk m c 0 t) (iblk m c 4 t) y
      = linear (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  idx_vars y
  refine (pay_at _ _ _ _ _ y0 y1).trans ?_
  unfold linear weight
  blk_point [iblk, V, idx t]

/-- The result array after the run is the linear layer of the arguments. -/
theorem final (c : Dev nD) : (dats m 0 c).arrAt 5 cfg0.N
    = linear (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.Proof.Kernel

end
-- ==== Proof.lean ====
/-
  Hand-written, untrusted. The proof of `Cert.Claim` (proof/Defs.lean): the generated frames, and the algebraic claim: both
  programs' results are the same linear layer of their arguments (Proof/Kernel.lean `final`, Proof/Reference.lean `ref_eq`).
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Reference
public import proofs.«01_k».proof.Proof.Kernel
public import Idealize.ShloMosaic.Adequacy
public import Idealize.ShloMosaic.Init

@[expose] public section

noncomputable section

namespace Cert.Proof

open Idealize.ShloMosaic Idealize.SL.Sem

/-- `Cert.quiescent_ReferenceIdeal`: the reference runs, leaves its arguments as they were and every semaphore at
    zero, since it has none. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run (F := Ideal) m g)

/-- `Cert.algebraic_KernelIdeal_ReferenceIdeal`: both run, and from equal arguments both results are the linear layer of the
    arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => linear (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)), ?_, ?_⟩
  · refine (θ_run (Cert.KernelIdeal.defs (F := Ideal)) _ _).mono (fun r h c => ?_)
      (Cert.KernelIdeal.Value.run_blocks (F := Ideal) m g)
    exact ⟨(h c).1.trans (Kernel.final m c), (h c).2⟩
  · refine (θ_run (Cert.ReferenceIdeal.defs (F := Ideal)) _ _).mono (fun r h c => ?_)
      (Cert.ReferenceIdeal.Value.run (F := Ideal) m' g')
    obtain ⟨a0, a1, a2, a3, a4⟩ := hargs c
    refine ⟨(h c).1.trans ?_, (h c).2⟩
    rw [a0, a1, a2, a3, a4]
    exact ref_eq _ _ _ _ _

/-- The certificate: the three programs run and keep their arguments, the idealization rewrites nothing, and the kernel's
    result is the reference's. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, reference_frame, trivial, algebraic⟩

end Cert.Proof

end
